-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4096x1024 : Shape := ⟨2, ![4096, 1024]⟩
abbrev S5x1024x1024 : Shape := ⟨3, ![5, 1024, 1024]⟩
abbrev S4x1024x1024 : Shape := ⟨3, ![4, 1024, 1024]⟩
abbrev S5 : Shape := ⟨1, ![5]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S5x1024x1024, .f32⟩
  | .local _ .vmem, ⟨1, _⟩ => ⟨S5x1024x1024, .f32⟩
  | .local _ .vmem, ⟨2, _⟩ => ⟨S4x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Windows.lean ====
/- What a squeezed window of a buffer reads and writes: the lemmas the kernel's block copies are followed with, stated for any view,
   and the one that says what a block of the sum is from the two blocks it was added from. -/
module

public import proofs.«01_k».proof.KernelIdeal
public import Idealize.ShloMosaic.Lib.Tactic
public import Idealize.ShloMosaic.Lib.Writes
public import Idealize.ShloMosaic.Lib.ViewIndex
public import Idealize.ShloMosaic.Lib.ValueLayout

@[expose] public section

noncomputable section

namespace Cert.PeAdd

open Idealize.ShloMosaic
open Cert.KernelIdeal (S1x1024x1024 S1024x1024)

section Any

variable {sig : RefSig} {κ : Kind} {sp : Space} {s t : Shape} {e : EltTy} {Val : EltTy → Type}

/-- A window filled through its squeezed form and loaded back, the unit axis then dropped from the loaded vector, is the payload. -/
theorem load_hit (v : View sig κ sp s e) (r : Rect s) (h : t.numel = r.shape.numel) (f : v.ty.Contents Val) (p : t.Idx → Val e)
    (hc : r.shape.ShapeCasts t) :
    shapeCast t (v.readAt Val r.toLoadRect (((v.slice r).reshape t h).write Val f p Finset.univ)) hc = p := by
  funext j
  exact View.read_write_reshape (v.slice r) h f p j

/-- A load from one window does not see what was written through the squeezed form of another, when their rows of the leading
    axis differ. -/
theorem load_miss {d : Fin 3 → Nat} {t u : Shape} (v : View sig κ sp ⟨3, d⟩ e) (o o' n n' : Fin 3 → Nat)
    (ho : ∀ a, o a + n a ≤ d a) (ho' : ∀ a, o' a + n' a ≤ d a)
    (hne : o 0 + n 0 ≤ o' 0 ∨ o' 0 + n' 0 ≤ o 0)
    (h : t.numel = (Rect.unit (s := ⟨3, d⟩) o' n' ho').shape.numel) (f : v.ty.Contents Val) (p : t.Idx → Val e)
    (hc : (Rect.unit (s := ⟨3, d⟩) o n ho).shape.ShapeCasts u) :
    shapeCast u (v.readAt Val (Rect.unit (s := ⟨3, d⟩) o n ho).toLoadRect
        (((v.slice (Rect.unit (s := ⟨3, d⟩) o' n' ho')).reshape t h).write Val f p Finset.univ)) hc
      = shapeCast u (v.readAt Val (Rect.unit (s := ⟨3, d⟩) o n ho).toLoadRect f) hc := by
  rw [View.write_reshape_univ, View.readAt_rect, View.readAt_rect, View.read_slice_write_slice_of_disjoint]
  rw [View.setOn_univ]
  exact View.disjoint_slice (Rect.unit_disjoint (s := ⟨3, d⟩) 0 hne)

/-- The squeezed form of a window, read after a store over that window, is the stored vector with its unit axis dropped. -/
theorem read_squeezed_stored (v : View sig κ sp s e) (r : Rect s) (h : t.numel = r.shape.numel) (f : v.ty.Contents Val)
    (w : r.shape.Idx → Val e) (L : List (View.Piece Val s e)) :
    ((v.slice r).reshape t h).read Val (v.writes Val f (⟨r, w⟩ :: L)) = fun j => w (Shape.reshapeEquiv h j) := by
  funext j
  exact View.read_writes_cons_emb v f r w L (Shape.reshapeEquiv h j)

end Any

section Block

variable {F : FTy → Type} [FloatOps F] {sig : RefSig} {κ : Kind} {sp : Space} {s : Shape}

/-- The block copied out of an output slot: when the two loaded vectors are the blocks `p` and `q` with a unit axis in front, and
    what was last stored over the slot is their sum with that axis put back, the slot reads `p + q`. -/
theorem block_out (v : View sig κ sp s .f32) (r : Rect s) (h : S1024x1024.numel = r.shape.numel) (f : v.ty.Contents (Elt F))
    (L : List (View.Piece (Elt F) s .f32)) (a b p q : S1024x1024.Idx → Elt F .f32) (hc : S1024x1024.ShapeCasts r.shape)
    (ha : a = p) (hb : b = q) :
    ((v.slice r).reshape S1024x1024 h).read (Elt F) (v.writes (Elt F) f (⟨r, shapeCast r.shape (addf (F := F) (φ := .f32) a b) hc⟩ :: L))
      = addf (F := F) (φ := .f32) p q := by
  subst ha hb
  rw [read_squeezed_stored]
  funext j
  show addf a b (Shape.reshapeEquiv _ (Shape.reshapeEquiv h j)) = _
  rw [Shape.reshapeEquiv_reshapeEquiv]
  exact congrArg _ (Shape.reshapeEquiv_eq_of_rowMajor _ rfl)

end Block

end Cert.PeAdd

end
-- ==== Proof.Sum.lean ====
/- The kernel's result as one function of its two arguments, and how sixteen block copies build it up. -/
module

public import proofs.«01_k».proof.Proof.Windows

@[expose] public section

noncomputable section

namespace Cert.PeAdd

open Idealize.ShloMosaic Idealize.ShloMosaic.TcCoe
open Cert.KernelIdeal

variable {F : FTy → Type} [FloatOps F]

/-- What core `c` holds in the buffer under a memref. -/
abbrev Bf (F : FTy → Type) (c : Dev nD) {sp : Space} {S : Shape} {e : EltTy} (M : Memref sig .tc sp S e) : Type :=
  Buf (Elt F) (M.view.loc (c : Thread nD τ))

/-- `x[b, i, k] + pos_emb[i, k]`, at every index. -/
def peSum (x : S4x4096x1024.Idx → Elt F .f32) (p : S4096x1024.Idx → Elt F .f32) : S4x4096x1024.Idx → Elt F .f32 :=
  fun i => FloatOps.addf (F := F) (φ := .f32) (x i) (p (ValueIdx.ix2 (i 1) (i 2)))

/-- The block of a three-axis array in hand at `o`, seen as a matrix. -/
abbrev win {sp : Space} (M : Memref sig .tc sp S4x4096x1024 .f32) (o : Fin 3 → Nat) (h : ∀ a, o a + S1x1024x1024.size a ≤ S4x4096x1024.size a)
    (hq : S1x1024x1024.Squeezes S1024x1024) : Memref sig .tc sp S1024x1024 .f32 :=
  (M.slice (Rect.unit (s := S4x4096x1024) o S1x1024x1024.size h) (fun _ => rfl)).squeeze S1024x1024 hq

/-- The rows of the position table from `o`. -/
abbrev rows {sp : Space} (M : Memref sig .tc sp S4096x1024 .f32) (o : Fin 2 → Nat) (h : ∀ a, o a + S1024x1024.size a ≤ S4096x1024.size a) :
    Memref sig .tc sp S1024x1024 .f32 :=
  M.slice (Rect.unit (s := S4096x1024) o S1024x1024.size h) (fun _ => rfl)

/-- The first `n` blocks of the result, counted batch by batch within each run of 1024 rows, hold the sum. -/
def Filled (c : Dev nD) (x : Bf F c (Memref.whole main_arg0)) (p : Bf F c (Memref.whole main_arg1)) (n : Nat)
    (f : Bf F c (Memref.whole main_v0)) : Prop :=
  ∀ i : S4x4096x1024.Idx, (i 1).val / 1024 * 4 + (i 0).val < n → (show S4x4096x1024.Idx → Elt F .f32 from f) i = peSum x p i

/-- Nothing is asked of the result before the first block. -/
theorem filled_zero (c : Dev nD) (x : Bf F c (Memref.whole main_arg0)) (p : Bf F c (Memref.whole main_arg1))
    (f : Bf F c (Memref.whole main_v0)) : Filled c x p 0 f := fun _ h => absurd h (Nat.not_lt_zero _)

/-- After the sixteenth the whole result is the sum. -/
theorem eq_of_filled (c : Dev nD) (x : Bf F c (Memref.whole main_arg0)) (p : Bf F c (Memref.whole main_arg1))
    (f : Bf F c (Memref.whole main_v0)) (h : Filled c x p 16 f) : f = peSum x p := by
  funext i
  refine h i ?_
  have h0 : (i 0).val < 4 := (i 0).isLt
  have h1 : (i 1).val < 4096 := (i 1).isLt
  omega

/-- The rows block `n` takes from the table lie within it. -/
theorem rows_inb {n : Nat} (hn : n < 16) : ∀ a, (![n / 4 * 1024, 0] : Fin 2 → Nat) a + S1024x1024.size a ≤ S4096x1024.size a
  | ⟨0, _⟩ => show n / 4 * 1024 + 1024 ≤ 4096 by omega
  | ⟨1, _⟩ => show 0 + 1024 ≤ 1024 by omega

/-- Copying out block `n = 4 * j + b`, the sum of the block of `x` at batch `b` and rows `1024 * j` and of the table's rows from there,
    fills one block more. -/
theorem filled_succ (c : Dev nD) (x : Bf F c (Memref.whole main_arg0)) (p : Bf F c (Memref.whole main_arg1))
    (n : Nat) (hn : n < 16) (f : Bf F c (Memref.whole main_v0)) (w : S1024x1024.Idx → Elt F .f32) (o : Fin 3 → Nat) (h hq)
    (ho0 : o 0 = n % 4) (ho1 : o 1 = n / 4 * 1024) (ho2 : o 2 = 0)
    (hw : w = addf (F := F) (φ := .f32) ((win (Memref.whole main_arg0) o h hq).view.read (Elt F) x)
      ((rows (Memref.whole main_arg1) ![n / 4 * 1024, 0] (rows_inb hn)).view.read (Elt F) p))
    (hf : Filled c x p n f) :
    Filled c x p (n + 1) ((win (Memref.whole main_v0) o h hq).view.write (Elt F) f w Finset.univ) := by
  intro i hi
  subst hw
  by_cases hm : i ∈ (Rect.unit (s := S4x4096x1024) o S1x1024x1024.size h).set
  · obtain ⟨z, hz⟩ := (Rect.unit (s := S4x4096x1024) o S1x1024x1024.size h).exists_idx_of_mem hm
    obtain ⟨y, rfl⟩ := (Shape.reshapeEquiv (s := S1x1024x1024) (s' := S1024x1024) hq.numel_eq).surjective z
    obtain ⟨u, v, rfl⟩ : ∃ (u : Fin 1024) (v : Fin 1024), y = ValueIdx.ix2 u v := ⟨y 0, y 1, ValueIdx.eq_ix2 y⟩
    have hi : (win (Memref.whole main_v0) o h hq).view.emb (ValueIdx.ix2 u v) = i := hz
    have e := View.read_write_univ (v := (win (Memref.whole main_v0) o h hq).view) f
      (addf (F := F) (φ := .f32) ((win (Memref.whole main_arg0) o h hq).view.read (Elt F) x)
        ((rows (Memref.whole main_arg1) ![n / 4 * 1024, 0] (rows_inb hn)).view.read (Elt F) p))
    have e := congrFun e (ValueIdx.ix2 u v)
    rw [View.read_apply, hi] at e
    refine (show _ = _ from e).trans ?_
    have hr : (Rect.unit (s := S4x4096x1024) o S1x1024x1024.size h).emb (ValueIdx.ix3 (⟨0, Nat.one_pos⟩ : Fin 1) u v) = i := by
      rw [← hz]; exact congrArg _ (ValueIdx.reshapeEquiv_ix2_1ab _ u v).symm
    have hx : (win (Memref.whole main_arg0) o h hq).view.read (Elt F) x (ValueIdx.ix2 u v) = (show S4x4096x1024.Idx → Elt F .f32 from x) i :=
      congrArg (show S4x4096x1024.Idx → Elt F .f32 from x) hz
    have hp : (rows (Memref.whole main_arg1) ![n / 4 * 1024, 0] (rows_inb hn)).view.read (Elt F) p (ValueIdx.ix2 u v)
        = (show S4096x1024.Idx → Elt F .f32 from p) (ValueIdx.ix2 (i 1) (i 2)) := by
      refine congrArg (show S4096x1024.Idx → Elt F .f32 from p) (funext fun a => Fin.ext ?_)
      match a with
      | ⟨0, _⟩ =>
        show n / 4 * 1024 + 1 * u.val = (i 1).val
        rw [← hr]
        show _ = o 1 + 1 * u.val
        rw [ho1]
      | ⟨1, _⟩ =>
        show 0 + 1 * v.val = (i 2).val
        rw [← hr]
        show _ = o 2 + 1 * v.val
        rw [ho2]
    show FloatOps.addf (F := F) (φ := .f32) _ _ = FloatOps.addf (F := F) (φ := .f32) _ _
    rw [hx, hp]
  · have e := View.read_slice_write_of_not_mem (v := (Memref.whole main_v0 : Memref sig .tc .hbm S4x4096x1024 .f32).view) (Val := Elt F)
      (Rect.unit (s := S4x4096x1024) o S1x1024x1024.size h) f
      (fun z => addf (F := F) (φ := .f32) ((win (Memref.whole main_arg0) o h hq).view.read (Elt F) x)
        ((rows (Memref.whole main_arg1) ![n / 4 * 1024, 0] (rows_inb hn)).view.read (Elt F) p) ((Shape.reshapeEquiv hq.numel_eq).symm z)) Finset.univ
      (y := i) (by rw [Rect.map_emb_univ]; exact hm)
    rw [← View.write_reshape_univ] at e
    refine (show _ = _ from e).trans (hf i ?_)
    have h0 : (i 0).val < 4 := (i 0).isLt
    have h1 : (i 1).val < 4096 := (i 1).isLt
    have h2 : (i 2).val < 1024 := (i 2).isLt
    by_contra hn
    refine hm (Rect.mem_set_unit.mpr fun a => ?_)
    match a with
    | ⟨0, _⟩ => show o 0 ≤ (i 0).val ∧ (i 0).val < o 0 + 1; omega
    | ⟨1, _⟩ => show o 1 ≤ (i 1).val ∧ (i 1).val < o 1 + 1024; omega
    | ⟨2, _⟩ => show o 2 ≤ (i 2).val ∧ (i 2).val < o 2 + 1024; omega

end Cert.PeAdd

end
-- ==== Proof.Body.lean ====
/- The kernel's body, run: from its arguments, its result and its scratch buffers held whole and its fourteen transfer counters at zero to
   the same with the result at the sum. -/
module

public import proofs.«01_k».proof.Proof.Gen.KernelIdeal
public import proofs.«01_k».proof.Proof.Gen.KernelIdeal.Skeleton
public import proofs.«01_k».proof.Proof.Sum
public import Idealize.ShloMosaic.Lib.Tactic
public import Idealize.ShloMosaic.Lib.Pipeline.Kit

@[expose] public section

noncomputable section

namespace Cert.PeAdd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds, beside the counters that transfers take their tokens from. -/
abbrev UU (nD : Nat) (τ : Topo) : Type := UR sig nD τ × Counters

local notation "𝕄" => MT nD τ sig Unit (Elt F) ℕ (UU nD τ) ℕ

/-- The buffer under a memref, held whole at `f`. -/
abbrev held (c : Dev nD) {sp : Space} {S : Shape} {e : EltTy} (M : Memref sig .tc sp S e) (f : Bf F c M) : sProp 𝕄 :=
  M.view.loc (c : Thread nD τ) ↦{fullShare} f

/-- The same at some contents. -/
abbrev heldAny (c : Dev nD) {sp : Space} {S : Shape} {e : EltTy} (M : Memref sig .tc sp S e) : sProp 𝕄 := iprop(∃ f, held c M f)

/-- A transfer counter of the core at zero. -/
abbrev idle (c : Dev nD) (k : DmaSem sig) : sProp 𝕄 := semVal ((c : Thread nD τ), SemLoc.dma k) 0

/-- The kernel's fourteen: five for the blocks of `x`, four for the table's, five for the result's. -/
abbrev idles (c : Dev nD) : sProp 𝕄 :=
  iprop(idle c 0 ∗ idle c 1 ∗ idle c 2 ∗ idle c 3 ∗ idle c 4 ∗ idle c 5 ∗ idle c 6 ∗ idle c 7 ∗ idle c 8 ∗ idle c 9 ∗ idle c 10 ∗ idle c 11 ∗ idle c 12 ∗ idle c 13)

set_option sl_exec.dmaWindow true
set_option sl_exec.squeezeSlice true

set_option maxHeartbeats 2000000 in
/-- From the arguments at `x` and `p`, the result and the three scratch buffers at anything and the counters at zero, the kernel returns with the
    arguments as they were, the result at `x + p`, the scratch buffers at something and the counters at zero. -/
theorem body_run (c : Dev nD)
    (x : Bf F c (Memref.whole main_arg0)) (p : Bf F c (Memref.whole main_arg1)) (f : Bf F c (Memref.whole main_v0))
    (g0 : Bf F c (Memref.whole cc0_scratch0)) (g1 : Bf F c (Memref.whole cc0_scratch1)) (g2 : Bf F c (Memref.whole cc0_scratch2))
    (W : Waits sig Unit) (Q : PUnit → sProp 𝕄) :
    iprop(held c (Memref.whole main_arg0) x ∗ held c (Memref.whole main_arg1) p ∗ held c (Memref.whole main_v0) f
      ∗ held c (Memref.whole cc0_scratch0) g0 ∗ held c (Memref.whole cc0_scratch1) g1 ∗ held c (Memref.whole cc0_scratch2) g2
      ∗ idles c ∗ owes (c : Thread nD τ) 0 W
      ∗ (iprop(held c (Memref.whole main_arg0) x ∗ held c (Memref.whole main_arg1) p
            ∗ (∃ f', ⌜f' = peSum x p⌝ ∗ held c (Memref.whole main_v0) f')
            ∗ heldAny c (Memref.whole cc0_scratch0) ∗ heldAny c (Memref.whole cc0_scratch1) ∗ heldAny c (Memref.whole cc0_scratch2)
            ∗ idles c ∗ ∃ W', owes (c : Thread nD τ) 0 W') -∗ Q ⟨⟩))
    ⊢ wp frame (wpE (defs₀ (F := F)) Variants.none c none) Set.univ
        (cc0__pe_add_manual (Memref.whole main_arg0) (Memref.isWhole_whole _) (Memref.whole main_arg1) (Memref.isWhole_whole _)
          (Memref.whole main_v0) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scratch5) Q := by
  iintro ⟨Hx, Hp, Ho, Hs0, Hs1, Hs2, ⟨Hd0, Hd1, Hd2, Hd3, Hd4, Hd5, Hd6, Hd7, Hd8, Hd9, Hd10, Hd11, Hd12, Hd13⟩, HO, Hk⟩
  sl_unfold [cc0__pe_add_manual]
  sl_exec
  sl_step
  iapply Hk
  isplitl [Hx]; · iexact Hx
  isplitl [Hp]; · iexact Hp
  isplitl [Ho]
  · iexists _
    isplitr; swap; · iexact Ho
    ipureintro
    apply eq_of_filled
    iterate 16
      refine filled_succ c x p _ (by decide) _ _ _ _ _ rfl rfl rfl (block_out _ _ _ _ _ _ _ _ _ _ ?_ ?_) ?_
      · repeat refine (load_miss _ _ _ _ _ _ _ (by decide) _ _ _ _).trans ?_
        exact load_hit _ _ _ _ _ _
      · repeat refine (load_miss _ _ _ _ _ _ _ (by decide) _ _ _ _).trans ?_
        exact load_hit _ _ _ _ _ _
    exact filled_zero c x p f
  isplitl [Hs0]; · iexists _; iexact Hs0
  isplitl [Hs1]; · iexists _; iexact Hs1
  isplitl [Hs2]; · iexists _; iexact Hs2
  isplitl [Hd0 Hd1 Hd2 Hd3 Hd4 Hd5 Hd6 Hd7 Hd8 Hd9 Hd10 Hd11 Hd12 Hd13]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    iexact Hd13
  iexists _; iexact HO

end Cert.PeAdd

end
-- ==== Proof.Launch.lean ====
/- The launch: what a run of the program from any memory ends in. -/
module

public import proofs.«01_k».proof.Proof.Body
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.KitQuiescent

@[expose] public section

noncomputable section

namespace Cert.PeAdd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The two arguments as launched. -/
abbrev argX (c : Dev nD) : Bf F c (Memref.whole main_arg0) := m ((c : Thread nD τ).loc main_arg0)
abbrev argP (c : Dev nD) : Bf F c (Memref.whole main_arg1) := m ((c : Thread nD τ).loc main_arg1)

/-- The kernel's own transfer counters: the whole pool. -/
abbrev osem : Fin 14 → SemLoc sig := fun k => SemLoc.dma k

theorem osem_facts : Pipeline.OwnSemFacts (cfg0.spec) osem := by decide

omit [FloatOps F] in
/-- The counters at zero, one by one. -/
theorem ownSems_eq (c : Dev nD) :
    (Pipeline.ownSems0 (Ix := Unit) (Name := ℕ) (U := UU nD τ) (Lvl := ℕ) (Val := Elt F) (τ := τ) osem c : sProp 𝕄) = idles c := by
  rw [Pipeline.ownSems0_eq_of_list c osem (List.finRange 14) (by decide) (by decide)]; rfl

/-- What is held around the body, before point `k`: the arguments as launched, the result at anything before the one point and at the sum
    after it, the scratch buffers at something, the counters at zero. -/
def inv (c : Dev nD) (k : Nat) : sProp 𝕄 :=
  iprop(held c (Memref.whole main_arg0) (argX m c) ∗ held c (Memref.whole main_arg1) (argP m c)
    ∗ (∃ f, ⌜0 < k → f = peSum (argX m c) (argP m c)⌝ ∗ held c (Memref.whole main_v0) f)
    ∗ heldAny c (Memref.whole cc0_scratch0) ∗ heldAny c (Memref.whole cc0_scratch1) ∗ heldAny c (Memref.whole cc0_scratch2)
    ∗ idles c)

/-- The one pipeline's proof data: no windows, the invariant above, nothing owed. -/
def dats (_ : Fin 1) (c : Dev nD) : Dat τ (Elt F) Unit ℕ (UU nD τ) ℕ cfg0 c where
  A w := w.elim0
  after w := w.elim0
  Φ k := inv m c k.val
  q _ := fullShare
  owed _ := 0

omit [FloatOps F] in
/-- No windows: nothing to hold for them. -/
theorem bigSep_no_windows (Φ : Fin cfg0.W → sProp 𝕄) : bigSep Finset.univ Φ = iprop(emp) := by
  rw [show (Finset.univ : Finset (Fin cfg0.W)) = ∅ from rfl, bigSep_empty]; rfl

/-- The body takes the invariant over the one point. -/
theorem body_step (c : Dev nD) (t : Fin cfg0.N) :
    iprop(inv m c t.castSucc.val ∗ (dats m 0 c).owesAt () t.castSucc ∗ emp)
      ⊢ wp frame (wpE (defs₀ (F := F)) Variants.none c none) Set.univ (bodyAt0 t)
          (fun _ => iprop(inv m c t.succ.val ∗ (dats m 0 c).owesAt () t.succ ∗ emp)) := by
  unfold inv bodyAt0 Dat.owesAt Pipeline.owesWithin
  rw [show (dats m 0 c).owed t.castSucc = 0 from rfl, show (dats m 0 c).owed t.succ = 0 from rfl]
  iintro ⟨⟨Hx, Hp, ⟨%f, -, Hf⟩, ⟨%g0, H0⟩, ⟨%g1, H1⟩, ⟨%g2, H2⟩, Hd⟩, ⟨%W, -, HW⟩, -⟩
  iapply (body_run c (argX m c) (argP m c) f g0 g1 g2 W _)
  isplitl [Hx]; · iexact Hx
  isplitl [Hp]; · iexact Hp
  isplitl [Hf]; · iexact Hf
  isplitl [H0]; · iexact H0
  isplitl [H1]; · iexact H1
  isplitl [H2]; · iexact H2
  isplitl [Hd]; · iexact Hd
  isplitl [HW]; · iexact HW
  iintro ⟨Hx, Hp, ⟨%f', %hf, Hf⟩, H0, H1, H2, Hd, ⟨%W', HW⟩⟩
  isplitl [Hx Hp Hf H0 H1 H2 Hd]
  · isplitl [Hx]; · iexact Hx
    isplitl [Hp]; · iexact Hp
    isplitl [Hf]
    · iexists f'
      isplitr; · ipureintro; exact fun _ => hf
      iexact Hf
    isplitl [H0]; · iexact H0
    isplitl [H1]; · iexact H1
    isplitl [H2]; · iexact H2
    iexact Hd
  isplitl [HW]
  · iexists W'
    isplitr; · ipureintro; exact fun _ _ => Or.inl trivial
    iexact HW
  iempintro

/-- The region's body call is the kernel function's. -/
theorem body_row (t : Fin cfg0.N) : defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_no_windows, bigSep_no_windows, body_row]
  exact triple_restated (body_step m c t) rfl .rfl fun _ => .rfl

/-- What every final state satisfies on core `c`. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_v0) = peSum (argX m c) (argP m c)

/-- The same as held buffers. -/
def kept (c : Dev nD) : sProp 𝕄 :=
  iprop(held c (Memref.whole main_arg0) (argX m c) ∗ held c (Memref.whole main_arg1) (argP m c)
    ∗ (∃ f, ⌜f = peSum (argX m c) (argP m c)⌝ ∗ held c (Memref.whole main_v0) f))

set_option backward.isDefEq.respectTransparency.types false in
/-- From any memory with every counter at zero, every run ends, with the arguments as they were, the result at `x + pos_emb` and every
    counter at zero. -/
theorem run_ends : θ_run defs (onTc (τ := τ) (main (F := F))) ⟨m, fun _ => 0, ρ⟩
    (fun r => (∀ c : Dev nD, Ends m c r.2) ∧ r.2.sem = fun _ => 0) :=
  Pipeline.θ_run_region_kit_quiescent cfgs (dats m) () (0 : Fin 1) launch0 (osem := osem) osem_facts embL defs₀ Variants.none m ρ main
    (hbody := fun c => (body_obligation m c).loose) (hshare := fun _ w => w.elim0) (howed := fun _ _ => rfl)
    (G := fun _ => iprop(emp))
    (u₀ := (initOf (Pipeline.cells cfgs launch0.cellOf_inj) (Pipeline.launchToks cfgs launch0.cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := Pipeline.hmain_region cfgs 0 defs₀ Variants.none m main fun c => (main_chain c).trans rfl)
    (hA := fun _ w => w.elim0)
    (X := fun c => iprop(held c (Memref.whole main_arg0) (argX m c) ∗ held c (Memref.whole main_arg1) (argP m c)
      ∗ heldAny c (Memref.whole main_v0) ∗ idles c))
    (Y := kept m) (Z := fun _ => iprop(emp))
    (hX := fun c => by
      rw [unscopedRest0_eq, ownSems_eq]
      iintro ⟨⟨Hx, Hp, Hf⟩, Hd, -, -, -⟩
      imodintro
      isplitl [Hx Hp Hf Hd]
      · isplitl [Hx]; · iexact Hx
        isplitl [Hp]; · iexact Hp
        isplitl [Hf]; · iexists _; iexact Hf
        iexact Hd
      iempintro)
    (hin := fun c => by
      rw [scopedRest0_eq, show (dats m 0 c).Φ 0 = inv m c 0 from rfl]
      unfold inv
      iintro ⟨⟨Hx, Hp, ⟨%f, Hf⟩, Hd⟩, H0, H1, H2⟩
      isplitl [Hx]; · iexact Hx
      isplitl [Hp]; · iexact Hp
      isplitl [Hf]
      · iexists f
        isplitr; · ipureintro; exact fun h => absurd h (Nat.lt_irrefl 0)
        iexact Hf
      isplitl [H0]; · iexact H0
      isplitl [H1]; · iexact H1
      isplitl [H2]; · iexact H2
      iexact Hd)
    (hout := fun c => by
      rw [scopedRest0_eq, ownSems_eq, show (dats m 0 c).Φ (Fin.last cfg0.N) = inv m c cfg0.N from rfl]
      unfold inv kept
      iintro ⟨Hx, Hp, ⟨%f, %hf, Hf⟩, H0, H1, H2, Hd⟩
      isplitl [Hx Hp Hf]
      · isplitl [Hx]; · iexact Hx
        isplitl [Hp]; · iexact Hp
        iexists f
        isplitr; · ipureintro; exact hf (by rw [show cfg0.N = 1 from N_0]; decide)
        iexact Hf
      isplitl [Hd]; · iexact Hd
      isplitl [H0]; · iexact H0
      isplitl [H1]; · iexact H1
      iexact H2)
    (QY := Ends m)
    (hY := fun c s' => by
      unfold kept
      iintro ⟨⟨Hx, Hp, ⟨%f, %hf, Hf⟩⟩, -, HSI⟩
      icombine HSI Hx gives %hx
      icombine HSI Hp gives %hp
      icombine HSI Hf gives %hv
      imodintro
      isplitr
      · ipureintro
        exact ⟨Buf.eq_of_forall_mem_univ hx, Buf.eq_of_forall_mem_univ hp, (Buf.eq_of_forall_mem_univ hv).trans hf⟩
      iexact HSI)
    (hQ := fun _ h hz => ⟨fun c => (h c).2, hz⟩)

/-- The frame of the program at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_ends m ρ)

end Cert.PeAdd

end
-- ==== Proof.Reference.lean ====
/- The reference's result: its table, taken at the row numbers 0, 1, …, is the table itself, so the reference ends holding the same sum. -/
module

public import proofs.«01_k».proof.Proof.Sum
public import proofs.«01_k».proof.Proof.Gen.ReferenceIdeal.Run
public import Idealize.ShloMosaic.Lib.Routing.Ops
public import Idealize.ShloMosaic.Lib.ReduceAll
public import Idealize.ShloMosaic.Lib.Affine
public import Idealize.ShloMosaic.Lib.Quiescent

@[expose] public section

noncomputable section

namespace Cert.PeAdd.Ref

open Idealize.ShloMosaic Idealize.ShloMosaic.TcCoe Idealize.SL.Sem
open Cert.ReferenceIdeal Cert.ReferenceIdeal.Gen

variable {F : FTy → Type} [FloatOps F]

/-- The row numbers the reference takes its table at, as it computes them: a count, with 4096 added where the count is negative. -/
abbrev rowIds : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))

/-- A number below 4096, held in 32 bits, reads back as itself under the sign. -/
theorem toInt_small (n : Nat) (hn : n < 4096) : (BitVec.ofNat 32 n).toInt = n := by
  rw [BitVec.toInt_eq_toNat_cond, BitVec.toNat_ofNat, Nat.mod_eq_of_lt (by omega), if_pos (by omega)]

/-- Entry `i` of the row numbers is `i`: no count is negative. -/
theorem rowIds_at (i : S4096x1.Idx) : rowIds i = BitVec.ofNat 32 (i 0).val := by
  have hs : ¬ IntOp.cmpi .slt (BitVec.ofNat 32 (i 0).val) 0#32 = 1#1 := by
    rw [IntOp.cmpi_slt, toInt_small _ (i 0).isLt, BitVec.toInt_zero]
    exact Int.not_lt.2 (Int.natCast_nonneg _)
  exact if_neg hs

/-- Every row number is inside the table: at least 0 and at most 4095. -/
abbrev inside : IVec S4096x1 1 :=
  andi (cmpi .sge rowIds (broadcastInDim S4096x1 ![] bcast_S_S4096x1 (constantI S_ 32 0#32)))
    (cmpi .sle rowIds (broadcastInDim S4096x1 ![0, 1] bcast_S1x1_S4096x1_0_1 (broadcastInDim S1x1 ![1] bcast_S1_S1x1_1 (constantI S1 32 4095#32))))

/-- The test of the row numbers holds at every entry. -/
theorem inside_at (i : S4096x1.Idx) : inside i = 1#1 := by
  have hi : (i 0).val < 4096 := (i 0).isLt
  show IntOp.andi (IntOp.cmpi .sge (rowIds i) (BitVec.ofNat 32 0)) (IntOp.cmpi .sle (rowIds i) (BitVec.ofNat 32 4095)) = 1#1
  rw [rowIds_at, IntOp.andi_eq_one, IntOp.cmpi_sge, IntOp.cmpi_sle, toInt_small _ hi, toInt_small _ (by decide), toInt_small _ (by decide)]
  omega

/-- The table taken at the row numbers, entry `i k`, is the table's entry `i k`. -/
theorem taken_at (p : S4096x1024.Idx → Elt F .f32) (i : Fin 4096) (k : Fin 1024) :
    Host.gather gather_S4096x1024_S4096x1_S4096x1024_1_0_n_n_0_1_11024 p rowIds (ValueIdx.ix2 i k) = p (ValueIdx.ix2 i k) :=
  Routing.gather_row gather_S4096x1024_S4096x1_S4096x1024_1_0_n_n_0_1_11024 rfl rfl rfl rfl rfl p rowIds i k i (rowIds_at _) (by decide)

/-- The reference's table lookup, which puts a NaN where a row number is outside the table. -/
abbrev looked (p : S4096x1024.Idx → Elt F .f32) : S4096x1024.Idx → Elt F .f32 :=
  select (broadcastInDim S4096x1024 ![0] bcast_S4096_S4096x1024_0
      (Host.reduce IntOp.andi inside (constantI S_ 1 1#1) reducesTo_S4096x1_S4096_d1 h_S_))
    (Host.gather gather_S4096x1024_S4096x1_S4096x1024_1_0_n_n_0_1_11024 p rowIds)
    (broadcastInDim S4096x1024 ![] bcast_S_S4096x1024 (constant (F := F) S_ .f32 0x7FC00000#32))

/-- The lookup gives back the table. -/
theorem looked_eq (p : S4096x1024.Idx → Elt F .f32) : looked p = p := by
  funext j
  rw [ValueIdx.eq_ix2 j]
  exact (if_pos (Host.reduce_andi_one inside _ _ _ _ rfl inside_at)).trans (taken_at p (j 0) (j 1))

/-- The reference's sum, of `x` and the looked-up table repeated over the batch, is `x[b, i, k] + p[i, k]` at every index. -/
theorem value_eq (x : S4x4096x1024.Idx → Elt F .f32) (p : S4096x1024.Idx → Elt F .f32) :
    addf (F := F) (φ := .f32) x (broadcastInDim S4x4096x1024 ![0, 1, 2] bcast_S1x4096x1024_S4x4096x1024_0_1_2
      (broadcastInDim S1x4096x1024 ![1, 2] bcast_S4096x1024_S1x4096x1024_1_2 (looked p))) = peSum x p := by
  rw [looked_eq]
  funext i
  refine congrArg (FloatOps.addf (F := F) (φ := .f32) (x i)) (congrArg p (funext fun a => ?_))
  match a with
  | 0 => rfl
  | 1 => rfl

/-- Every run of the reference ends with the sum of its two arguments in its result and the arguments as they were. -/
theorem run_ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = peSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq _ _), (h c).2⟩) (Value.run m ρ)

/-- Every run of the reference ends with the arguments as they were and every counter at zero, for it has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run_ends m ρ)

end Cert.PeAdd.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel and the reference, started on the same arguments, both end with `x[b, i, k] + pos_emb[i, k]` at every index. -/
theorem same_sum : Cert.algebraic_KernelIdeal_ReferenceIdeal (hKernelIdeal := Cert.KernelIdeal.Gen.facts)
    (hReferenceIdeal := Cert.ReferenceIdeal.Gen.facts) := fun m g m' g' _ hagree =>
  ⟨fun c => PeAdd.peSum (PeAdd.argX m c) (PeAdd.argP m c),
    (θ_run Cert.KernelIdeal.defs _ _).mono (fun _ h c => ⟨(h.1 c).2.2, (h.1 c).1, (h.1 c).2.1⟩) (PeAdd.run_ends m g),
    (θ_run Cert.ReferenceIdeal.defs _ _).mono
      (fun _ h c => ⟨(h c).1.trans (congrArg₂ PeAdd.peSum (hagree c).1 (hagree c).2), (h c).2⟩) (PeAdd.Ref.run_ends m' g')⟩

/-- The certificate: the kernel, the kernel over the reals and the reference each run and stop with their arguments kept and their
    counters at zero; the kernel over the reals is the kernel's own text; and it agrees with the reference. -/
theorem claim : Cert.Claim := ⟨Cert.Kernel.Gen.facts, Cert.KernelIdeal.Gen.facts, Cert.ReferenceIdeal.Gen.facts,
  fun m ρ _ => PeAdd.frame (F := Bits) m ρ, fun m ρ _ => PeAdd.frame (F := Ideal) m ρ,
  fun m ρ _ => PeAdd.Ref.frame (F := Ideal) m ρ, trivial, same_sum⟩

end Cert.Proof

end
